-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_nonzero [hPre_rows_nonzero : Cert.Pre_rows_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_rows_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_rows_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_nonzero [hPre_rows_nonzero : Cert.Pre_rows_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_rows_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rows_nonzero [hKernelIdeal : Cert.KernelIdeal.Facts] [hPre_rows_nonzero : Cert.Pre_rows_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_nonzero [hReferenceIdeal : Cert.ReferenceIdeal.Facts] [hPre_rows_nonzero : Cert.Pre_rows_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_rows_nonzero [hKernelIdeal : Cert.KernelIdeal.Facts] [hReferenceIdeal : Cert.ReferenceIdeal.Facts] [hPre_rows_nonzero : Cert.Pre_rows_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rows_nonzero : Cert.Pre_rows_nonzero.Facts),
    quiescent_Kernel (hKernel := hKernel)
    ∧ quiescent_KernelIdeal (hKernelIdeal := hKernelIdeal)
    ∧ quiescent_KernelIdeal_pre_rows_nonzero (hKernelIdeal := hKernelIdeal) (hPre_rows_nonzero := hPre_rows_nonzero)
    ∧ quiescent_ReferenceIdeal (hReferenceIdeal := hReferenceIdeal)
    ∧ quiescent_ReferenceIdeal_pre_rows_nonzero (hReferenceIdeal := hReferenceIdeal) (hPre_rows_nonzero := hPre_rows_nonzero)
    ∧ preserves_Kernel_KernelIdeal
    ∧ algebraic_KernelIdeal_ReferenceIdeal_pre_rows_nonzero (hKernelIdeal := hKernelIdeal) (hReferenceIdeal := hReferenceIdeal) (hPre_rows_nonzero := hPre_rows_nonzero)
-- ==== Pre_rows_nonzero.lean ====
abbrev S1x256x384 : Shape := ⟨3, ![1, 256, 384]⟩
abbrev S200000x384 : Shape := ⟨2, ![200000, 384]⟩
abbrev S_ : Shape := ⟨0, ![]⟩
abbrev S1x256 : Shape := ⟨2, ![1, 256]⟩
abbrev S200000 : Shape := ⟨1, ![200000]⟩

class Facts : Prop where
  reducesTo_S1x256x384_S1x256_d2 : S1x256x384.ReducesTo [2] S1x256
  h_S_ : 0 < S_.numel
  reducesTo_S200000x384_S200000_d1 : S200000x384.ReducesTo [1] S200000
  bcast_S_S1x256 : S_.BroadcastsInDim S1x256 (![] : Fin 0 → Fin S1x256.rank)
  bcast_S_S200000 : S_.BroadcastsInDim S200000 (![] : Fin 0 → Fin S200000.rank)

variable [Facts]

def fn {F : FTy → Type} [FloatOps F] (main_arg0 : FVec F S1x256x384 .f32) (main_arg1 : FVec F S200000x384 .f32) : IVec S1x256 1 × IVec S200000 1 :=
  let main_v0 : FVec F S1x256x384 .f32 := mulf main_arg0 main_arg0
  let main_cst : FVec F S_ .f32 := constant S_ .f32 0x00000000#32
  let main_v1 : FVec F S1x256 .f32 := (fun x v => Host.reduceAdd x v reducesTo_S1x256x384_S1x256_d2 h_S_) main_v0 main_cst
  let main_v2 : FVec F S200000x384 .f32 := mulf main_arg1 main_arg1
  let main_cst_0 : FVec F S_ .f32 := constant S_ .f32 0x00000000#32
  let main_v3 : FVec F S200000 .f32 := (fun x v => Host.reduceAdd x v reducesTo_S200000x384_S200000_d1 h_S_) main_v2 main_cst_0
  let main_cst_1 : FVec F S_ .f32 := constant S_ .f32 0x00000000#32
  let main_v4 : FVec F S1x256 .f32 := broadcastInDim S1x256 ![] bcast_S_S1x256 main_cst_1
  let main_v5 : IVec S1x256 1 := cmpf .ogt main_v1 main_v4
  let main_cst_2 : FVec F S_ .f32 := constant S_ .f32 0x7F800000#32
  let main_v6 : FVec F S1x256 .f32 := broadcastInDim S1x256 ![] bcast_S_S1x256 main_cst_2
  let main_v7 : IVec S1x256 1 := cmpf .olt main_v1 main_v6
  let main_v8 : IVec S1x256 1 := andi main_v5 main_v7
  let main_cst_3 : FVec F S_ .f32 := constant S_ .f32 0x00000000#32
  let main_v9 : FVec F S200000 .f32 := broadcastInDim S200000 ![] bcast_S_S200000 main_cst_3
  let main_v10 : IVec S200000 1 := cmpf .ogt main_v3 main_v9
  let main_cst_4 : FVec F S_ .f32 := constant S_ .f32 0x7F800000#32
  let main_v11 : FVec F S200000 .f32 := broadcastInDim S200000 ![] bcast_S_S200000 main_cst_4
  let main_v12 : IVec S200000 1 := cmpf .olt main_v3 main_v11
  let main_v13 : IVec S200000 1 := andi main_v10 main_v12
  (main_v8, main_v13)
-- ==== Kernel.lean ====
abbrev S1x256x384 : Shape := ⟨3, ![1, 256, 384]⟩
abbrev S200000x384 : Shape := ⟨2, ![200000, 384]⟩
abbrev S224x16 : Shape := ⟨2, ![224, 16]⟩
abbrev S256x384 : Shape := ⟨2, ![256, 384]⟩
abbrev S1x1 : Shape := ⟨2, ![1, 1]⟩
abbrev S1x1x224x224 : Shape := ⟨4, ![1, 1, 224, 224]⟩
abbrev S8000x384 : Shape := ⟨2, ![8000, 384]⟩
abbrev S1x256 : Shape := ⟨2, ![1, 256]⟩
abbrev S256 : Shape := ⟨1, ![256]⟩
abbrev S256x1 : Shape := ⟨2, ![256, 1]⟩
abbrev S8000 : Shape := ⟨1, ![8000]⟩
abbrev S8000x1 : Shape := ⟨2, ![8000, 1]⟩
abbrev S8000x256 : Shape := ⟨2, ![8000, 256]⟩
abbrev S1 : Shape := ⟨1, ![1]⟩
abbrev S1x16 : Shape := ⟨2, ![1, 16]⟩
abbrev S16x16 : Shape := ⟨2, ![16, 16]⟩
abbrev S16x224 : Shape := ⟨2, ![16, 224]⟩
abbrev S224x224 : Shape := ⟨2, ![224, 224]⟩

abbrev nBuf : Space → Nat
  | .hbm => 6
  | .vmem => 8
  | .smem => 0
  | _ => 0

abbrev bufTy : (tb : Table) → Fin (tcTables nBuf tb) → BufTy
  | .hbm, ⟨0, _⟩ => ⟨S1x256x384, .f32⟩
  | .hbm, ⟨1, _⟩ => ⟨S200000x384, .f32⟩
  | .hbm, ⟨2, _⟩ => ⟨S224x16, .f32⟩
  | .hbm, ⟨3, _⟩ => ⟨S256x384, .f32⟩
  | .hbm, ⟨4, _⟩ => ⟨S1x1, .f32⟩
  | .hbm, ⟨5, _⟩ => ⟨S1x1x224x224, .f32⟩
  | .local _ .vmem, ⟨0, _⟩ => ⟨S256x384, .f32⟩
  | .local _ .vmem, ⟨1, _⟩ => ⟨S8000x384, .f32⟩
  | .local _ .vmem, ⟨2, _⟩ => ⟨S8000x384, .f32⟩
  | .local _ .vmem, ⟨3, _⟩ => ⟨S224x16, .f32⟩
  | .local _ .vmem, ⟨4, _⟩ => ⟨S1x1, .f32⟩
  | .local _ .vmem, ⟨5, _⟩ => ⟨S1x1x224x224, .f32⟩
  | .local _ .vmem, ⟨6, _⟩ => ⟨S256x384, .bf16⟩
  | .local _ .vmem, ⟨7, _⟩ => ⟨S1x256, .f32⟩
  | _, _ => ⟨S1x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S256x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8000x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S224x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x224x224 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1x256x384 : Shape := ⟨3, ![1, 256, 384]⟩
abbrev S200000x384 : Shape := ⟨2, ![200000, 384]⟩
abbrev S224x16 : Shape := ⟨2, ![224, 16]⟩
abbrev S_ : Shape := ⟨0, ![]⟩
abbrev S1x256 : Shape := ⟨2, ![1, 256]⟩
abbrev S1x256x1 : Shape := ⟨3, ![1, 256, 1]⟩
abbrev S200000 : Shape := ⟨1, ![200000]⟩
abbrev S200000x1 : Shape := ⟨2, ![200000, 1]⟩
abbrev S256x384 : Shape := ⟨2, ![256, 384]⟩
abbrev S256 : Shape := ⟨1, ![256]⟩
abbrev S256x1 : Shape := ⟨2, ![256, 1]⟩
abbrev S1x200000 : Shape := ⟨2, ![1, 200000]⟩
abbrev S256x200000 : Shape := ⟨2, ![256, 200000]⟩
abbrev S384x200000 : Shape := ⟨2, ![384, 200000]⟩
abbrev S1x2 : Shape := ⟨2, ![1, 2]⟩
abbrev S1 : Shape := ⟨1, ![1]⟩
abbrev S1x1 : Shape := ⟨2, ![1, 1]⟩
abbrev S1x1x16x16 : Shape := ⟨4, ![1, 1, 16, 16]⟩
abbrev S224x1x1x16 : Shape := ⟨4, ![224, 1, 1, 16]⟩
abbrev S224x1x1x224 : Shape := ⟨4, ![224, 1, 1, 224]⟩
abbrev S1x1x224x224 : Shape := ⟨4, ![1, 1, 224, 224]⟩

abbrev nBuf : Space → Nat
  | .hbm => 67
  | .vmem => 0
  | .smem => 0
  | _ => 0

abbrev bufTy : (tb : Table) → Fin (tcTables nBuf tb) → BufTy
  | .hbm, ⟨0, _⟩ => ⟨S1x256x384, .f32⟩
  | .hbm, ⟨1, _⟩ => ⟨S200000x384, .f32⟩
  | .hbm, ⟨2, _⟩ => ⟨S224x16, .f32⟩
  | .hbm, ⟨3, _⟩ => ⟨S1x256x384, .f32⟩
  | .hbm, ⟨4, _⟩ => ⟨S_, .f32⟩
  | .hbm, ⟨5, _⟩ => ⟨S1x256, .f32⟩
  | .hbm, ⟨6, _⟩ => ⟨S1x256x1, .f32⟩
  | .hbm, ⟨7, _⟩ => ⟨S1x256x1, .f32⟩
  | .hbm, ⟨8, _⟩ => ⟨S_, .f32⟩
  | .hbm, ⟨9, _⟩ => ⟨S1x256x1, .f32⟩
  | .hbm, ⟨10, _⟩ => ⟨S1x256x1, .f32⟩
  | .hbm, ⟨11, _⟩ => ⟨S1x256x384, .f32⟩
  | .hbm, ⟨12, _⟩ => ⟨S1x256x384, .f32⟩
  | .hbm, ⟨13, _⟩ => ⟨S1x256x384, .f32⟩
  | .hbm, ⟨14, _⟩ => ⟨S1x256x384, .f32⟩
  | .hbm, ⟨15, _⟩ => ⟨S200000x384, .f32⟩
  | .hbm, ⟨16, _⟩ => ⟨S_, .f32⟩
  | .hbm, ⟨17, _⟩ => ⟨S200000, .f32⟩
  | .hbm, ⟨18, _⟩ => ⟨S200000x1, .f32⟩
  | .hbm, ⟨19, _⟩ => ⟨S200000x1, .f32⟩
  | .hbm, ⟨20, _⟩ => ⟨S200000x384, .f32⟩
  | .hbm, ⟨21, _⟩ => ⟨S200000x384, .f32⟩
  | .hbm, ⟨22, _⟩ => ⟨S256x384, .f32⟩
  | .hbm, ⟨23, _⟩ => ⟨S256x384, .f32⟩
  | .hbm, ⟨24, _⟩ => ⟨S256x384, .f32⟩
  | .hbm, ⟨25, _⟩ => ⟨S_, .f32⟩
  | .hbm, ⟨26, _⟩ => ⟨S256, .f32⟩
  | .hbm, ⟨27, _⟩ => ⟨S256x1, .f32⟩
  | .hbm, ⟨28, _⟩ => ⟨S200000x384, .f32⟩
  | .hbm, ⟨29, _⟩ => ⟨S_, .f32⟩
  | .hbm, ⟨30, _⟩ => ⟨S200000, .f32⟩
  | .hbm, ⟨31, _⟩ => ⟨S1x200000, .f32⟩
  | .hbm, ⟨32, _⟩ => ⟨S256x200000, .f32⟩
  | .hbm, ⟨33, _⟩ => ⟨S256x200000, .f32⟩
  | .hbm, ⟨34, _⟩ => ⟨S256x200000, .f32⟩
  | .hbm, ⟨35, _⟩ => ⟨S384x200000, .f32⟩
  | .hbm, ⟨36, _⟩ => ⟨S256x200000, .f32⟩
  | .hbm, ⟨37, _⟩ => ⟨S_, .f32⟩
  | .hbm, ⟨38, _⟩ => ⟨S256x200000, .f32⟩
  | .hbm, ⟨39, _⟩ => ⟨S256x200000, .f32⟩
  | .hbm, ⟨40, _⟩ => ⟨S256x200000, .f32⟩
  | .hbm, ⟨41, _⟩ => ⟨S_, .f32⟩
  | .hbm, ⟨42, _⟩ => ⟨S256x200000, .f32⟩
  | .hbm, ⟨43, _⟩ => ⟨S256x200000, .f32⟩
  | .hbm, ⟨44, _⟩ => ⟨S256x200000, .f32⟩
  | .hbm, ⟨45, _⟩ => ⟨S256x200000, .f32⟩
  | .hbm, ⟨46, _⟩ => ⟨S256x1, .f32⟩
  | .hbm, ⟨47, _⟩ => ⟨S256x1, .i32⟩
  | .hbm, ⟨48, _⟩ => ⟨S256x1, .f32⟩
  | .hbm, ⟨49, _⟩ => ⟨S_, .f32⟩
  | .hbm, ⟨50, _⟩ => ⟨S256, .f32⟩
  | .hbm, ⟨51, _⟩ => ⟨S_, .f32⟩
  | .hbm, ⟨52, _⟩ => ⟨S256, .f32⟩
  | .hbm, ⟨53, _⟩ => ⟨S256, .f32⟩
  | .hbm, ⟨54, _⟩ => ⟨S1x256, .f32⟩
  | .hbm, ⟨55, _⟩ => ⟨S1x2, .f32⟩
  | .hbm, ⟨56, _⟩ => ⟨S1x2, .i32⟩
  | .hbm, ⟨57, _⟩ => ⟨S_, .f32⟩
  | .hbm, ⟨58, _⟩ => ⟨S1, .f32⟩
  | .hbm, ⟨59, _⟩ => ⟨S1x1, .f32⟩
  | .hbm, ⟨60, _⟩ => ⟨S_, .f32⟩
  | .hbm, ⟨61, _⟩ => ⟨S1x1, .f32⟩
  | .hbm, ⟨62, _⟩ => ⟨S1x1, .f32⟩
  | .hbm, ⟨63, _⟩ => ⟨S1x1x16x16, .f32⟩
  | .hbm, ⟨64, _⟩ => ⟨S224x1x1x16, .f32⟩
  | .hbm, ⟨65, _⟩ => ⟨S224x1x1x224, .f32⟩
  | .hbm, ⟨66, _⟩ => ⟨S1x1x224x224, .f32⟩
  | _, _ => ⟨S1x256x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_values : Ref sig .tc := ⟨.hbm, 46, rfl⟩
abbrev main_indices : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_values_9 : Ref sig .tc := ⟨.hbm, 55, rfl⟩
abbrev main_indices_10 : Ref sig .tc := ⟨.hbm, 56, rfl⟩
abbrev main_cst_11 : Ref sig .tc := ⟨.hbm, 57, rfl⟩
abbrev main_v41 : Ref sig .tc := ⟨.hbm, 58, rfl⟩
abbrev main_v42 : Ref sig .tc := ⟨.hbm, 59, rfl⟩
abbrev main_cst_12 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Proof.KernelCases.lean ====
/-
  What one grid point of the kernel leaves behind, case by case: the generated named terms, read back as the payloads
  of the stores that the body makes. Three cases: the first point (both scratch buffers set up, then the block's
  update), a middle point (the update alone), the last point (the update, then the two results).
-/
module

public import proofs.«01_k».proof.Proof.Gen.KernelIdeal.Value

@[expose] public section

noncomputable section

namespace Cert.KernelIdeal.Cases

open Cert.KernelIdeal Cert.KernelIdeal.Gen Idealize.ShloMosaic Idealize.ShloMosaic.TcCoe Idealize.SL.Sem

variable {F : FTy → Type} [FloatOps F]

/-- The zero offsets of a matrix. -/
theorem off2 : (![0, 0] : Fin 2 → Nat) = fun _ => 0 := funext fun a => by fin_cases a <;> rfl

/-- The zero offsets of an array of four axes. -/
theorem off4 : (![0, 0, 0, 0] : Fin 4 → Nat) = fun _ => 0 := funext fun a => by fin_cases a <;> rfl

variable (c : Dev nD) (i : grid0.Coords)
  (arg1 : Memref sig .tc .vmem S256x384 .f32) (h1 : arg1.IsWhole)
  (arg2 : Memref sig .tc .vmem S8000x384 .f32) (h2 : arg2.IsWhole)
  (arg3 : Memref sig .tc .vmem S224x16 .f32) (h3 : arg3.IsWhole)
  (arg4 : Memref sig .tc .vmem S1x1 .f32) (h4 : arg4.IsWhole)
  (arg5 : Memref sig .tc .vmem S1x1x224x224 .f32) (h5 : arg5.IsWhole)
  (arg6 : Memref sig .tc .vmem S256x384 .bf16) (h6 : arg6.IsWhole)
  (arg7 : Memref sig .tc .vmem S1x256 .f32) (h7 : arg7.IsWhole)
  (q : Vec F S256x384 .f32) (b : Vec F S8000x384 .f32) (r : Vec F S224x16 .f32)
  (qn : Vec F S256x384 .bf16) (mx : Vec F S1x256 .f32)

/-- The first point leaves the normalised feature rows in the first scratch. -/
theorem first_qn (hc0 : cond0_0 i) (hc1 : ¬cond0_1 i) :
    sout0_A_0 c i arg1 h1 arg2 h2 arg3 h3 arg4 h4 arg5 h5 arg6 h6 arg7 h7 hc0 hc1 q b r = k0_pay1 q := by
  unfold sout0_A_0
  rw [View.read_writes_junk_eq_canon]
  unfold kernelRun0_A
  dsimp only
  sl_unfold_words
  rw [View.canon_unit_zero (S := S256x384) off2]
  simp only [View.readAt_eq_ld, h1.read_unread, View.ld_unit_zero (S := S256x384) off2]

/-- The first point leaves, in the second scratch, the first block's update of the starting row. -/
theorem first_max (hc0 : cond0_0 i) (hc1 : ¬cond0_1 i) :
    sout0_A_1 c i arg1 h1 arg2 h2 arg3 h3 arg4 h4 arg5 h5 arg6 h6 arg7 h7 hc0 hc1 q b r
      = k0_pay3 b (k0_pay1 q) k0_pay2 := by
  unfold sout0_A_1
  rw [View.read_writes_junk_eq_canon]
  unfold kernelRun0_A
  dsimp only
  sl_unfold_words
  rw [View.canon_cons_unit_zero (S := S1x256) off2]
  simp only [View.readAt_eq_ld, h1.read_unread, h2.read_unread, View.ld_unit_zero (S := S256x384) off2,
    View.ld_unit_zero (S := S8000x384) off2, View.readCov_unit_zero (S := S256x384) _ off2,
    View.readCov_unit_zero (S := S1x256) _ off2]

/-- A middle point leaves the first scratch as it was. -/
theorem middle_qn (hc0 : ¬cond0_0 i) (hc1 : ¬cond0_1 i) :
    sout0_B_0 c i arg1 h1 arg2 h2 arg3 h3 arg4 h4 arg5 h5 arg6 h6 arg7 h7 hc0 hc1 q b r qn mx = qn := rfl

/-- A middle point leaves, in the second scratch, its block's update of what was there. -/
theorem middle_max (hc0 : ¬cond0_0 i) (hc1 : ¬cond0_1 i) :
    sout0_B_1 c i arg1 h1 arg2 h2 arg3 h3 arg4 h4 arg5 h5 arg6 h6 arg7 h7 hc0 hc1 q b r qn mx
      = k0_pay3 b qn mx := by
  unfold sout0_B_1
  rw [View.read_writes_junk_eq_canon]
  unfold kernelRun0_B
  dsimp only
  sl_unfold_words
  rw [View.canon_unit_zero (S := S1x256) off2]
  simp only [View.readAt_eq_ld, h2.read_unread, h6.read_unread, h7.read_unread,
    View.ld_unit_zero (S := S256x384) off2, View.ld_unit_zero (S := S8000x384) off2,
    View.ld_unit_zero (S := S1x256) off2]

/-- The last point's score is the score payload of its block's update. -/
theorem last_score (hc0 : ¬cond0_0 i) (hc1 : cond0_1 i) :
    out0_C_3 c i arg1 h1 arg2 h2 arg3 h3 arg4 h4 arg5 h5 arg6 h6 arg7 h7 hc0 hc1 q b r qn mx
      = k0_pay6 (k0_pay3 b qn mx) := by
  unfold out0_C_3
  rw [View.read_writes_junk_eq_canon]
  unfold kernelRun0_C
  dsimp only
  sl_unfold_words
  rw [View.canon_unit_zero (S := S1x1) off2]
  simp only [View.readAt_eq_ld, h2.read_unread, h6.read_unread, h7.read_unread,
    View.ld_unit_zero (S := S256x384) off2, View.ld_unit_zero (S := S8000x384) off2,
    View.ld_unit_zero (S := S1x256) off2, View.readCov_unit_zero (S := S1x256) _ off2]

/-- The last point's map is the map payload of its block's update and the weight table. -/
theorem last_map (hc0 : ¬cond0_0 i) (hc1 : cond0_1 i) :
    out0_C_4 c i arg1 h1 arg2 h2 arg3 h3 arg4 h4 arg5 h5 arg6 h6 arg7 h7 hc0 hc1 q b r qn mx
      = k0_pay4 (k0_pay7 (k0_pay3 b qn mx)) r := by
  unfold out0_C_4
  rw [View.read_writes_junk_eq_canon]
  unfold kernelRun0_C
  dsimp only
  sl_unfold_words
  rw [View.canon_unit_zero (S := S1x1x224x224) off4]
  simp only [View.readAt_eq_ld, h2.read_unread, h3.read_unread, h6.read_unread, h7.read_unread,
    View.ld_unit_zero (S := S256x384) off2, View.ld_unit_zero (S := S8000x384) off2,
    View.ld_unit_zero (S := S224x16) off2,
    View.ld_unit_zero (S := S1x256) off2, View.readCov_unit_zero (S := S1x256) _ off2]

end Cert.KernelIdeal.Cases

end
-- ==== Proof.TopTwo.lean ====
/-
  The greatest and the second greatest entry of a finite row of extended reals, as both programs use them: the second
  is the greatest of the entries other than one entry that attains the first, and which one is left out does not matter.
-/
module

public import Idealize.ShloMosaic.PureOps.Ideal

@[expose] public section

noncomputable section

namespace Cert.Knn

/-- `first` is the greatest entry of `f`, and `second` the greatest of the others: of all entries but one, `i`, that
    attains the greatest. -/
def TopTwo {n : ℕ} (f : Fin n → EReal) (first second : EReal) : Prop :=
  ∃ i : Fin n, f i = first ∧ first = Finset.univ.sup f ∧ second = (Finset.univ.erase i).sup f

/-- If two different positions attain the greatest entry, leaving one of them out keeps the greatest entry. -/
theorem sup_erase_of_other {n : ℕ} (f : Fin n → EReal) {i j : Fin n} (hij : j ≠ i)
    (hj : f j = Finset.univ.sup f) : (Finset.univ.erase i).sup f = Finset.univ.sup f :=
  le_antisymm (Finset.sup_mono (Finset.subset_univ _))
    (hj ▸ Finset.le_sup (f := f) (Finset.mem_erase.mpr ⟨hij, Finset.mem_univ j⟩))

/-- The two greatest entries are determined by the row. -/
theorem TopTwo.unique {n : ℕ} {f : Fin n → EReal} {a b a' b' : EReal} (h : TopTwo f a b) (h' : TopTwo f a' b') :
    a = a' ∧ b = b' := by
  obtain ⟨i, hi, ha, hb⟩ := h
  obtain ⟨j, hj, ha', hb'⟩ := h'
  refine ⟨ha.trans ha'.symm, ?_⟩
  rcases eq_or_ne i j with rfl | hij
  · exact hb.trans hb'.symm
  · rw [hb, hb', sup_erase_of_other f (Ne.symm hij) (hj.trans ha'), sup_erase_of_other f hij (hi.trans ha)]

/-- Some position of a row that is not empty attains the greatest entry. -/
theorem exists_eq_sup {n : ℕ} (hn : 0 < n) (f : Fin n → EReal) : ∃ i, f i = Finset.univ.sup f := by
  haveI : Nonempty (Fin n) := ⟨⟨0, hn⟩⟩
  obtain ⟨i, -, hi⟩ := Finset.exists_max_image Finset.univ f Finset.univ_nonempty
  exact ⟨i, le_antisymm (Finset.le_sup (Finset.mem_univ i)) (Finset.sup_le hi)⟩

end Cert.Knn

end
-- ==== Proof.Spec.lean ====
/-
  The quantities both programs compute, over the extended reals: what the kernel takes of one feature row and one bank
  row, what the reference takes of them, and how the two results follow from the 256 distances of the patches.
-/
module

public import proofs.«01_k».proof.Proof.TopTwo

@[expose] public section

noncomputable section

namespace Cert.Knn

open Idealize.ShloMosaic

/-- The small number added to a feature row's norm. -/
abbrev eps : EReal := Ideal.ofBits .f32 0x322BCC77#32

/-- The number below which no squared distance is taken. -/
abbrev least : EReal := Ideal.ofBits .f32 0x2B8CBCCC#32

/-- The constant two. -/
abbrev two : EReal := Ideal.ofBits .f32 0x40000000#32

/-- The constant one half. -/
abbrev half : EReal := Ideal.ofBits .f32 0x3F000000#32

/-- A row's sum of squares. -/
def sumSq (x : Fin 384 → EReal) : EReal := ∑ k, x k * x k

/-- A feature row divided by its norm plus the small number. -/
def patch (x : Fin 384 → EReal) (k : Fin 384) : EReal := Ideal.div (x k) (Ideal.sqrt (sumSq x) + eps)

/-- A row divided by its norm. -/
def unit (x : Fin 384 → EReal) (k : Fin 384) : EReal := Ideal.div (x k) (Ideal.sqrt (sumSq x))

/-- The kernel's similarity of a feature row `x` and a bank row `y`: their product with the feature row normalised,
    scaled by the reciprocal of the bank row's norm. -/
def similarity (x y : Fin 384 → EReal) : EReal := (∑ k, y k * patch x k) * Ideal.rsqrt (sumSq y)

/-- The distance that belongs to a similarity `s`: the root of `2 - 2 s`, which is not let below `least`. -/
def distOf (s : EReal) : EReal := Ideal.sqrt (max (two - two * s) least)

/-- The kernel's distance of a feature row to the bank `Y`: that of the greatest similarity. -/
def kernelDist (x : Fin 384 → EReal) (Y : Fin 200000 → Fin 384 → EReal) : EReal :=
  distOf (Finset.univ.sup fun j => similarity x (Y j))

/-- The reference's distance of a feature row and a bank row, by the expanded square. -/
def pairDist (x y : Fin 384 → EReal) : EReal :=
  Ideal.sqrt (max ((sumSq (unit x) + sumSq (unit y)) - two * ∑ k, patch x k * unit y k) least)

/-- The reference's distance of a feature row to the bank: the greatest of the negated distances, negated. -/
def referenceDist (x : Fin 384 → EReal) (Y : Fin 200000 → Fin 384 → EReal) : EReal :=
  -(Finset.univ.sup fun j => -pairDist x (Y j))

/-- The map at row `y` and column `x` of the image: the distances laid out on the 16 × 16 grid, each axis multiplied
    by the table of resize weights `w`. -/
def mapAt (w : Fin 224 → Fin 16 → EReal) (d : Fin 256 → EReal) (y x : Fin 224) : EReal :=
  ∑ j : Fin 16, (∑ i : Fin 16, w y i * d ⟨16 * i.val + j.val, by omega⟩) * w x j

end Cert.Knn

end
-- ==== Proof.Payloads.lean ====
/-
  The payloads of the kernel's stores, read at an index over the extended reals: the normalised feature rows, one bank
  block's update of the running greatest similarities, the distances, and the two results of the last point.
-/
module

public import proofs.«01_k».proof.Proof.Spec
public import proofs.«01_k».proof.Proof.Gen.KernelIdeal.Skeleton
public import Idealize.ShloMosaic.Lib.Pointwise
public import Idealize.ShloMosaic.Lib.Pipeline.ValueKit.Tiles

@[expose] public section

set_option maxRecDepth 16384

noncomputable section

namespace Cert.KernelIdeal.Payloads

open Cert.KernelIdeal Cert.KernelIdeal.Gen Cert.Knn Idealize.ShloMosaic

/-- The constant minus infinity is the least extended real. -/
theorem negInf : Ideal.ofBits .f32 0xFF800000#32 = ⊥ := by
  simp [Ideal.ofBits, Ideal.ieee]

/-- A maximum folded from minus infinity over a row is the row's greatest entry. -/
theorem fold_max {n : ℕ} (f : Fin n → EReal) :
    Finset.fold max (Ideal.ofBits .f32 0xFF800000#32) f Finset.univ = Finset.univ.sup f := by
  rw [negInf]; rfl

/-- Row `p` of the first scratch is feature row `p`, normalised. -/
theorem queries_apply (q : Vec Ideal S256x384 .f32) (p : Fin 256) (k : Fin 384) :
    k0_pay1 (F := Ideal) q (ix2 p k) = patch (fun i => q (ix2 p i)) k := by
  pointwise [k0_pay1]
  rfl

/-- The running greatest similarities start at minus infinity. -/
theorem start_apply (p : Fin 256) : k0_pay2 (F := Ideal) (ix2 0 p) = ⊥ := by
  pointwise [k0_pay2]
  exact negInf

/-- One block's update: the greater of what was there and the greatest similarity within the block. -/
theorem update_apply (b : Vec Ideal S8000x384 .f32) (qn : Vec Ideal S256x384 .bf16) (mx : Vec Ideal S1x256 .f32)
    (p : Fin 256) : k0_pay3 (F := Ideal) b qn mx (ix2 0 p)
      = max (mx (ix2 0 p)) (Finset.univ.sup fun r : Fin 8000 =>
          (∑ k, b (ix2 r k) * qn (ix2 p k)) * Ideal.rsqrt (sumSq fun k => b (ix2 r k))) := by
  pointwise [k0_pay3]
  rw [fold_max]
  rfl

/-- The distances of the greatest similarities. -/
theorem dist_apply (mx : Vec Ideal S1x256 .f32) (p : Fin 256) :
    k0_pay5 (F := Ideal) mx (ix2 0 p) = distOf (mx (ix2 0 p)) := by
  pointwise [k0_pay5]
  rfl

/-- A slice of 16 lanes of a row, from lane `o` on. -/
theorem slice_row (d : FVec Ideal S1x256 .f32) (o : ℕ) (h : S1x256.Slices ![0, o] S1x16) (x : S1x16.Idx)
    (t : Fin 256) (ht : t.val = o + (x 1).val) : extractStridedSlice S1x16 ![0, o] d h x = d (ix2 0 t) := by
  unfold extractStridedSlice
  refine congrArg d (funext fun a => Fin.ext ?_)
  match a with
  | ⟨0, _⟩ =>
    show 0 + (x 0).val = 0
    have h0 : (x 0).val < 1 := (x 0).isLt
    omega
  | ⟨1, _⟩ => exact ht.symm

/-- The 16 slices laid one below the other are the distances on the grid: place `(i, j)` holds distance `16 i + j`. -/
theorem grid_apply (mx : Vec Ideal S1x256 .f32) (i j : Fin 16) :
    k0_pay7 (F := Ideal) mx (ix2 i j) = distOf (mx (ix2 0 ⟨16 * i.val + j.val, by omega⟩)) := by
  rw [← dist_apply]
  unfold k0_pay7
  generalize k0_pay5 mx = d
  have e0 : ((ix2 i j) 0).val = i.val := rfl
  have e1 : ((ix2 i j) 1).val = j.val := rfl
  concat_tiles z hz
  all_goals
    refine slice_row d _ _ z _ ?_
    show 16 * i.val + j.val = _
    omega

/-- The map at a place of the image, from the grid and the weight table. -/
theorem map_apply (a : Vec Ideal S16x16 .f32) (r : Vec Ideal S224x16 .f32) (y x : Fin 224) :
    k0_pay4 (F := Ideal) a r (ix4 0 0 y x)
      = ∑ j : Fin 16, (∑ i : Fin 16, r (ix2 y i) * a (ix2 i j)) * r (ix2 x j) := by
  pointwise [k0_pay4]

/-- The signed minimum of two words that hold small naturals. -/
theorem minsi_ofNat (a b : ℕ) (ha : a < 2 ^ 31) (hb : b < 2 ^ 31) :
    IntOp.minsi (BitVec.ofNat 32 a) (BitVec.ofNat 32 b) = BitVec.ofNat 32 (min a b) := by
  have e : ∀ n : ℕ, n < 2 ^ 31 → (BitVec.ofNat 32 n).toInt = n := fun n hn => by
    rw [BitVec.toInt_eq_toNat_cond, BitVec.toNat_ofNat]
    split <;> omega
  unfold IntOp.minsi
  rcases lt_or_ge a b with h | h
  · rw [if_pos (by rw [BitVec.slt, e a ha, e b hb]; exact decide_eq_true (by exact_mod_cast h)), min_eq_left h.le]
  · rw [if_neg (by rw [BitVec.slt, e a ha, e b hb]; simpa using h), min_eq_right h]

/-- The signed minimum over a set of words that hold small naturals: it holds a natural that none of them is below,
    and which is one of them unless it is the starting one. -/
theorem fold_minsi {n : ℕ} (h : Fin n → ℕ) (hs : ∀ x, h x < 2 ^ 31) (s : Finset (Fin n)) : ∃ m : ℕ,
    Finset.fold IntOp.minsi (2147483647#32) (fun x => BitVec.ofNat 32 (h x)) s = BitVec.ofNat 32 m ∧ m < 2 ^ 31
      ∧ (m = 2147483647 ∨ ∃ x ∈ s, m = h x) ∧ ∀ x ∈ s, m ≤ h x := by
  classical
  induction s using Finset.induction_on with
  | empty => exact ⟨2147483647, rfl, by norm_num, .inl rfl, by simp⟩
  | insert a s ha ih =>
    obtain ⟨m, hm, hlt, hor, hle⟩ := ih
    refine ⟨min (h a) m, ?_, by omega, ?_, ?_⟩
    · rw [Finset.fold_insert ha, hm, minsi_ofNat _ _ (hs a) hlt]
    · rcases le_total (h a) m with hc | hc
      · exact .inr ⟨a, Finset.mem_insert_self a s, min_eq_left hc⟩
      · rcases hor with h1 | ⟨x, hx, h1⟩
        · exact .inl ((min_eq_right hc).trans h1)
        · exact .inr ⟨x, Finset.mem_insert_of_mem hx, (min_eq_right hc).trans h1⟩
    · intro x hx
      rcases Finset.mem_insert.mp hx with rfl | hx
      · exact min_le_left _ _
      · exact (min_le_right _ _).trans (hle x hx)

/-- The position that the kernel finds as the least among those whose entry equals the greatest does attain it. -/
theorem firstMax_spec (f : Fin 256 → EReal) (top : EReal) (htop : top = Finset.univ.sup f) :
    ∃ i : Fin 256, f i = top ∧
      Finset.fold IntOp.minsi (2147483647#32) (fun x : Fin 256 => if f x = top then BitVec.ofNat 32 x.val else 256#32)
        Finset.univ = BitVec.ofNat 32 i.val := by
  obtain ⟨j, hj⟩ := exists_eq_sup (by norm_num) f
  rw [← htop] at hj
  have hw : (fun x : Fin 256 => if f x = top then BitVec.ofNat 32 x.val else 256#32)
      = fun x : Fin 256 => BitVec.ofNat 32 (if f x = top then x.val else 256) := by
    funext x
    split <;> rfl
  obtain ⟨m, hm, -, hor, hle⟩ := fold_minsi (fun x : Fin 256 => if f x = top then x.val else 256)
    (fun x => by have := x.isLt; split <;> omega) Finset.univ
  have hmj : m ≤ j.val := by simpa [hj] using hle j (Finset.mem_univ j)
  have := j.isLt
  rcases hor with h | ⟨x, -, h⟩
  · omega
  · by_cases hx : f x = top
    · refine ⟨x, hx, ?_⟩
      rw [hw, hm, h, if_pos hx]
    · rw [if_neg hx] at h
      omega

/-- A row with one entry replaced by minus infinity has the greatest entry of the other positions. -/
theorem sup_masked (f : Fin 256 → EReal) (i : Fin 256) :
    Finset.univ.sup (fun x : Fin 256 => Scalar.select (IntOp.cmpi .eq (BitVec.ofNat 32 x.val) (BitVec.ofNat 32 i.val))
      (⊥ : EReal) (f x)) = (Finset.univ.erase i).sup f := by
  have hsel : ∀ x : Fin 256, Scalar.select (IntOp.cmpi .eq (BitVec.ofNat 32 x.val) (BitVec.ofNat 32 i.val))
      (⊥ : EReal) (f x) = if x = i then ⊥ else f x := fun x => by
    have hx := x.isLt
    have hi := i.isLt
    by_cases h : x = i
    · subst h
      simp [Scalar.select, IntOp.cmpi]
    · have hne : BitVec.ofNat 32 x.val ≠ BitVec.ofNat 32 i.val := fun e => h (Fin.ext (by
        have := congrArg BitVec.toNat e
        simp only [BitVec.toNat_ofNat] at this
        omega))
      have hb : (BitVec.ofNat 32 x.val == BitVec.ofNat 32 i.val) = false := by simpa using hne
      simp [Scalar.select, IntOp.cmpi, h, hb]
  refine le_antisymm (Finset.sup_le fun x _ => ?_) (Finset.sup_le fun x hx => ?_)
  · rw [hsel]
    split
    · exact bot_le
    · exact Finset.le_sup (f := f) (Finset.mem_erase.mpr ⟨‹_›, Finset.mem_univ x⟩)
  · refine le_trans (le_of_eq ?_) (Finset.le_sup (Finset.mem_univ x))
    rw [hsel, if_neg (Finset.mem_erase.mp hx).1]

/-- Half the sum of a row's greatest entry and of the greatest of the row with the first such entry masked out. -/
theorem score_of_row (f : Fin 256 → EReal) : ∃ a b : EReal, TopTwo f a b ∧
    half * (Finset.fold max (Ideal.ofBits .f32 0xFF800000#32) f Finset.univ
      + Finset.fold max (Ideal.ofBits .f32 0xFF800000#32) (fun x : Fin 256 => Scalar.select
          (IntOp.cmpi .eq (BitVec.ofNat 32 x.val) (Finset.fold IntOp.minsi (2147483647#32)
            (fun x : Fin 256 => if f x = Finset.fold max (Ideal.ofBits .f32 0xFF800000#32) f Finset.univ
              then BitVec.ofNat 32 x.val else 256#32) Finset.univ))
          (Ideal.ofBits .f32 0xFF800000#32) (f x)) Finset.univ) = half * (a + b) := by
  obtain ⟨i, hi, hmin⟩ := firstMax_spec f _ rfl
  refine ⟨Finset.univ.sup f, (Finset.univ.erase i).sup f, ⟨i, hi, rfl, rfl⟩, ?_⟩
  rw [fold_max f, fold_max, hmin, negInf, sup_masked]

/-- The score: half the sum of the two greatest distances. -/
theorem score_apply (mx : Vec Ideal S1x256 .f32) : ∃ a b : EReal,
    TopTwo (fun p : Fin 256 => distOf (mx (ix2 0 p))) a b ∧ k0_pay6 (F := Ideal) mx (ix2 0 0) = half * (a + b) := by
  obtain ⟨a, b, h, e⟩ := score_of_row fun p : Fin 256 => distOf (mx (ix2 0 p))
  refine ⟨a, b, h, Eq.trans ?_ e⟩
  pointwise [k0_pay6]
  simp only [dist_apply]

end Cert.KernelIdeal.Payloads

end
-- ==== Proof.KernelValue.lean ====
/-
  What the kernel's two result arrays hold after the run, over the extended reals: by induction on the grid point, the
  scratch rows hold the normalised features and the greatest similarity to the bank rows seen so far; the last point
  turns them into the score and the map.
-/
module

public import proofs.«01_k».proof.Proof.KernelCases
public import proofs.«01_k».proof.Proof.Payloads
public import Idealize.ShloMosaic.Lib.StableHlo.RunRead

@[expose] public section

set_option maxRecDepth 16384

noncomputable section

namespace Cert.KernelIdeal.Arrays

open Cert.KernelIdeal Cert.KernelIdeal.Gen Cert.KernelIdeal.Value Cert.KernelIdeal.Cases Cert.KernelIdeal.Payloads
open Cert.Knn Idealize.ShloMosaic Idealize.ShloMosaic.TcCoe Idealize.SL.Sem Idealize.ShloMosaic.StableHlo

variable (m : (ℓ : Loc nD τ sig) → Buf (Elt Ideal) ℓ) (c : Dev nD)

/-- Feature row `p` of the launch's first argument. -/
def feat (p : Fin 256) (k : Fin 384) : EReal :=
  (m ((c : Thread nD τ).loc main_arg0) : S1x256x384.Idx → EReal) (ix3 0 p k)

/-- Bank row `j` of the launch's second argument. -/
def bank (j : Fin 200000) (k : Fin 384) : EReal :=
  (m ((c : Thread nD τ).loc main_arg1) : S200000x384.Idx → EReal) (ix2 j k)

/-- The table of resize weights. -/
def weight (y : Fin 224) (i : Fin 16) : EReal := Ideal.ofBits .f32 (lit0 (S224x16.rowMajor (ix2 y i)))

/-- Dropping the leading axis of one moves no element. -/
theorem drop_axis (x : S1x256x384.Idx → EReal) (p : Fin 256) (k : Fin 384) :
    shapeCast S256x384 x shapeCasts_S1x256x384_S256x384 (ix2 p k) = x (ix3 0 p k) := by
  pointwise []

/-- The region finds the features laid out as a matrix. -/
theorem features_in (p : Fin 256) (k : Fin 384) :
    (V m c main_v0 : S256x384.Idx → EReal) (ix2 p k) = feat m c p k := by
  have e : (V m c main_v0 : S256x384.Idx → EReal)
      = shapeCast S256x384 (m ((c : Thread nD τ).loc main_arg0) : S1x256x384.Idx → EReal) shapeCasts_S1x256x384_S256x384 := by
    show StableHlo.after hostOps0 _ (Proc.devRef .tc main_v0) = _
    after_reads_simp
    rfl
  rw [e]
  exact drop_axis _ p k

/-- The region finds the weight table as it is written in the program. -/
theorem weights_in (y : Fin 224) (i : Fin 16) :
    (V m c main_cst : S224x16.Idx → EReal) (ix2 y i) = weight y i := by
  have e : (V m c main_cst : S224x16.Idx → EReal)
      = fun j => Ideal.ofBits .f32 (lit0 (S224x16.rowMajor j)) := by
    show StableHlo.after hostOps0 _ (Proc.devRef .tc main_cst) = _
    after_reads_simp
    rfl
  rw [e]
  rfl

/-- The block indices of the three input windows: constant, the point's number, constant. -/
theorem index_in : ∀ t : Fin cfg0.N, (win0_0.index t 0 = 0 ∧ win0_0.index t 1 = 0)
    ∧ (win0_1.index t 0 = t.val ∧ win0_1.index t 1 = 0) ∧ (win0_2.index t 0 = 0 ∧ win0_2.index t 1 = 0) :=
  (by decide +kernel : ∀ t : Fin grid0.N, _)

/-- The feature block at any point is the whole feature matrix. -/
theorem block_features (t : Fin cfg0.N) (p : Fin 256) (k : Fin 384) :
    (iblk m c 0 t : S256x384.Idx → EReal) (ix2 p k) = feat m c p k := by
  obtain ⟨⟨h0, h1⟩, -, -⟩ := index_in t
  rw [← features_in]
  unfold iblk
  rw [View.read_apply]
  refine congrArg (V m c main_v0 : S256x384.Idx → EReal) (funext fun a => Fin.ext ?_)
  match a with
  | ⟨0, _⟩ => show win0_0.index t 0 * 256 + 1 * p.val = p.val; rw [h0]; omega
  | ⟨1, _⟩ => show win0_0.index t 1 * 384 + 1 * k.val = k.val; rw [h1]; omega

/-- The bank block at point `t` is rows `8000 t` on of the bank. -/
theorem block_bank (t : Fin cfg0.N) (r : Fin 8000) (k : Fin 384) (j : Fin 200000) (hj : j.val = 8000 * t.val + r.val) :
    (iblk m c 1 t : S8000x384.Idx → EReal) (ix2 r k) = bank m c j k := by
  obtain ⟨-, ⟨h0, h1⟩, -⟩ := index_in t
  unfold iblk
  rw [View.read_apply]
  show (V m c main_arg1 : S200000x384.Idx → EReal) _ = _
  rw [V_main_arg1]
  refine congrArg (m ((c : Thread nD τ).loc main_arg1) : S200000x384.Idx → EReal) (funext fun a => Fin.ext ?_)
  match a with
  | ⟨0, _⟩ => show win0_1.index t 0 * 8000 + 1 * r.val = j.val; rw [h0]; omega
  | ⟨1, _⟩ => show win0_1.index t 1 * 384 + 1 * k.val = k.val; rw [h1]; omega

/-- The weight block at any point is the whole table. -/
theorem block_weights (t : Fin cfg0.N) (y : Fin 224) (i : Fin 16) :
    (iblk m c 2 t : S224x16.Idx → EReal) (ix2 y i) = weight y i := by
  obtain ⟨-, -, ⟨h0, h1⟩⟩ := index_in t
  rw [← weights_in m c]
  unfold iblk
  rw [View.read_apply]
  refine congrArg (V m c main_cst : S224x16.Idx → EReal) (funext fun a => Fin.ext ?_)
  match a with
  | ⟨0, _⟩ => show win0_2.index t 0 * 224 + 1 * y.val = y.val; rw [h0]; omega
  | ⟨1, _⟩ => show win0_2.index t 1 * 16 + 1 * i.val = i.val; rw [h1]; omega

/-- The greatest of `f`'s values at the places from `lo` to before `hi`. -/
def supBetween {N : ℕ} (f : Fin N → EReal) (lo hi : ℕ) : EReal :=
  (Finset.univ.filter fun j : Fin N => lo ≤ j.val ∧ j.val < hi).sup f

/-- A value at a place of the range is at most the greatest. -/
theorem le_supBetween {N : ℕ} (f : Fin N → EReal) {lo hi : ℕ} (j : Fin N) (h1 : lo ≤ j.val) (h2 : j.val < hi) :
    f j ≤ supBetween f lo hi := Finset.le_sup (f := f) (Finset.mem_filter.mpr ⟨Finset.mem_univ _, h1, h2⟩)

/-- What bounds every value of the range bounds the greatest. -/
theorem supBetween_le {N : ℕ} (f : Fin N → EReal) {lo hi : ℕ} {a : EReal}
    (h : ∀ j : Fin N, lo ≤ j.val → j.val < hi → f j ≤ a) : supBetween f lo hi ≤ a :=
  Finset.sup_le fun j hj => h j (Finset.mem_filter.mp hj).2.1 (Finset.mem_filter.mp hj).2.2

/-- Two adjoining ranges make one. -/
theorem supBetween_join {N : ℕ} (f : Fin N → EReal) {lo mid hi : ℕ} (h1 : lo ≤ mid) (h2 : mid ≤ hi) :
    max (supBetween f lo mid) (supBetween f mid hi) = supBetween f lo hi := by
  refine le_antisymm (max_le (supBetween_le f fun j a b => le_supBetween f j a (by omega))
    (supBetween_le f fun j a b => le_supBetween f j (by omega) b)) (supBetween_le f fun j a b => ?_)
  rcases lt_or_ge j.val mid with h | h
  · exact (le_supBetween f j a h).trans (le_max_left _ _)
  · exact (le_supBetween f j h b).trans (le_max_right _ _)

/-- The range of all places. -/
theorem supBetween_all {N : ℕ} (f : Fin N → EReal) {hi : ℕ} (h : N ≤ hi) :
    supBetween f 0 hi = Finset.univ.sup f :=
  le_antisymm (supBetween_le f fun _ _ _ => Finset.le_sup (Finset.mem_univ _))
    (Finset.sup_le fun j _ => le_supBetween f j (Nat.zero_le _) (by have := j.isLt; omega))

/-- The similarity of feature row `p` to bank row `j`. -/
def sim (p : Fin 256) (j : Fin 200000) : EReal := similarity (feat m c p) (bank m c j)

/-- One block's update over scratch rows that hold the normalised features, the block being rows `8000 n` on of the
    bank: the greater of what was there and the greatest similarity to the block's rows. -/
theorem update_over (blk : Vec Ideal S8000x384 .f32) (n : ℕ) (hn : n < 25) (qn : Vec Ideal S256x384 .bf16)
    (mx : Vec Ideal S1x256 .f32)
    (hb : ∀ (r : Fin 8000) (k : Fin 384) (j : Fin 200000), j.val = 8000 * n + r.val → blk (ix2 r k) = bank m c j k)
    (hq : ∀ (p : Fin 256) (k : Fin 384), qn (ix2 p k) = patch (feat m c p) k) (p : Fin 256) :
    k0_pay3 (F := Ideal) blk qn mx (ix2 0 p)
      = max (mx (ix2 0 p)) (supBetween (sim m c p) (8000 * n) (8000 * (n + 1))) := by
  have row : ∀ (r : Fin 8000) (j : Fin 200000), j.val = 8000 * n + r.val →
      (∑ k, blk (ix2 r k) * qn (ix2 p k)) * Ideal.rsqrt (sumSq fun k => blk (ix2 r k)) = sim m c p j := by
    intro r j hj
    simp only [fun k => hb r k j hj, hq]
    rfl
  rw [update_apply]
  refine congrArg (max _) (le_antisymm (Finset.sup_le fun r _ => ?_) (supBetween_le _ fun j h1 h2 => ?_))
  · have hr := r.isLt
    rw [row r ⟨8000 * n + r.val, by omega⟩ rfl]
    exact le_supBetween _ _ (by dsimp only; omega) (by dsimp only; omega)
  · refine le_trans (le_of_eq (row ⟨j.val - 8000 * n, by omega⟩ j (by dsimp only; omega)).symm)
      (Finset.le_sup (f := fun r : Fin 8000 => (∑ k, blk (ix2 r k) * qn (ix2 p k))
        * Ideal.rsqrt (sumSq fun k => blk (ix2 r k))) (Finset.mem_univ _))

/-- The same at grid point `t`, whose block of the bank is block `t`. -/
theorem update_at (t : Fin cfg0.N) (qn : Vec Ideal S256x384 .bf16) (mx : Vec Ideal S1x256 .f32)
    (hq : ∀ (p : Fin 256) (k : Fin 384), qn (ix2 p k) = patch (feat m c p) k) (p : Fin 256) :
    k0_pay3 (F := Ideal) (iblk m c 1 t) qn mx (ix2 0 p)
      = max (mx (ix2 0 p)) (supBetween (sim m c p) (8000 * t.val) (8000 * (t.val + 1))) :=
  update_over m c (iblk m c 1 t) t.val (lt_of_lt_of_eq t.isLt (show cfg0.N = 25 from N_0)) qn mx
    (fun r k j hj => block_bank m c t r k j hj) hq p

/-- The update at point `n + 1` over a row that holds the greatest similarities up to point `n`. -/
theorem update_next (n : ℕ) (h : n + 1 < cfg0.N) (qn : Vec Ideal S256x384 .bf16) (mx : Vec Ideal S1x256 .f32)
    (hq : ∀ (p : Fin 256) (k : Fin 384), qn (ix2 p k) = patch (feat m c p) k)
    (hm : ∀ p : Fin 256, mx (ix2 0 p) = supBetween (sim m c p) 0 (8000 * (n + 1))) (p : Fin 256) :
    k0_pay3 (F := Ideal) (iblk m c 1 ⟨n + 1, h⟩) qn mx (ix2 0 p) = supBetween (sim m c p) 0 (8000 * (n + 1 + 1)) := by
  rw [update_at m c ⟨n + 1, h⟩ qn mx hq, hm]
  exact supBetween_join (sim m c p) (lo := 0) (mid := 8000 * (n + 1)) (hi := 8000 * (n + 1 + 1)) (by omega) (by omega)

/-- What the scratch holds after a point before the last: the normalised features, and the greatest similarities so far. -/
theorem scratch_after : ∀ (n : ℕ) (h : n < cfg0.N) (_ : n < 24),
    (∀ (p : Fin 256) (k : Fin 384), (outsAt0 m c n h).2.2.1 (ix2 p k) = patch (feat m c p) k)
    ∧ ∀ p : Fin 256, (outsAt0 m c n h).2.2.2 (ix2 0 p) = supBetween (sim m c p) 0 (8000 * (n + 1))
  | 0, h, _ => by
    have hq : ∀ (p : Fin 256) (k : Fin 384),
        k0_pay1 (F := Ideal) (iblk m c 0 ⟨0, h⟩) (ix2 p k) = patch (feat m c p) k := fun p k => by
      rw [queries_apply]
      simp only [block_features]
    have e := outsAt0_A m c ⟨0, h⟩ rfl (by simp)
    change outsAt0 m c 0 h = _ at e
    rw [e]
    refine ⟨fun p k => ?_, fun p => ?_⟩
    · dsimp only
      rw [first_qn]
      exact hq p k
    · dsimp only
      rw [first_max, update_at m c ⟨0, h⟩ _ _ hq, start_apply]
      exact max_eq_right bot_le
  | n + 1, h, h' => by
    obtain ⟨ihq, ihm⟩ := scratch_after n (Nat.lt_of_succ_lt h) (by omega)
    have e := outsAt0_B m c ⟨n + 1, h⟩ (by show ¬(n + 1) % 25 = 0; omega) (by show ¬(n + 1) % 25 = 24; omega)
    change outsAt0 m c (n + 1) h = _ at e
    rw [e]
    refine ⟨fun p k => ihq p k, fun p => ?_⟩
    dsimp only
    rw [middle_max]
    exact update_next m c n h _ _ ihq ihm p

/-- The row that the last point turns into distances: of each feature row the greatest similarity to the whole bank. -/
theorem last_row (h : 23 + 1 < cfg0.N) (p : Fin 256) :
    k0_pay3 (F := Ideal) (iblk m c 1 ⟨23 + 1, h⟩) (outsAt0 m c 23 (Nat.lt_of_succ_lt h)).2.2.1
      (outsAt0 m c 23 (Nat.lt_of_succ_lt h)).2.2.2 (ix2 0 p) = Finset.univ.sup (sim m c p) := by
  obtain ⟨hq, hm⟩ := scratch_after m c 23 (Nat.lt_of_succ_lt h) (by omega)
  rw [update_next m c 23 h _ _ hq hm]
  exact supBetween_all _ (by omega)

/-- The distances of the feature rows to the bank. -/
def dist (p : Fin 256) : EReal := kernelDist (feat m c p) (bank m c)

/-- The score's array after the run: half the sum of the two greatest distances. -/
theorem score_value : ∃ a b : EReal, TopTwo (dist m c) a b ∧ G3 m c (ix2 0 0) = half * (a + b) := by
  have h : 23 + 1 < cfg0.N := lt_of_lt_of_eq (by omega) (show cfg0.N = 25 from N_0).symm
  have e := outsAt0_C m c ⟨23 + 1, h⟩ (by simp) rfl
  change outsAt0 m c 24 h = _ at e
  rw [G3_last, ← outsAt0_sweep m c 24 h, e]
  dsimp only
  rw [last_score]
  obtain ⟨a, b, ht, hv⟩ := score_apply (k0_pay3 (F := Ideal) (iblk m c 1 ⟨23 + 1, h⟩)
    (outsAt0 m c 23 (Nat.lt_of_succ_lt h)).2.2.1 (outsAt0 m c 23 (Nat.lt_of_succ_lt h)).2.2.2)
  simp only [last_row] at ht
  exact ⟨a, b, ht, hv⟩

/-- The map step over a table `w` and a row of similarities. -/
theorem map_over (r : Vec Ideal S224x16 .f32) (w : Fin 224 → Fin 16 → EReal) (hr : ∀ y i, r (ix2 y i) = w y i)
    (mx : Vec Ideal S1x256 .f32) (best : Fin 256 → EReal) (hm : ∀ p : Fin 256, mx (ix2 0 p) = best p) (y x : Fin 224) :
    k0_pay4 (F := Ideal) (k0_pay7 mx) r (ix4 0 0 y x) = mapAt w (fun p => distOf (best p)) y x := by
  rw [map_apply]
  simp only [grid_apply, hr, hm]
  rfl

/-- The map's array after the run: the distances, laid out on the patch grid and resized. -/
theorem map_value (y x : Fin 224) : G4 m c (ix4 0 0 y x) = mapAt weight (dist m c) y x := by
  have h : 23 + 1 < cfg0.N := lt_of_lt_of_eq (by omega) (show cfg0.N = 25 from N_0).symm
  have e := outsAt0_C m c ⟨23 + 1, h⟩ (by simp) rfl
  change outsAt0 m c 24 h = _ at e
  rw [G4_last, ← outsAt0_sweep m c 24 h, e]
  dsimp only
  rw [last_map]
  exact map_over _ _ (fun y i => block_weights m c ⟨23 + 1, h⟩ y i) _ _ (last_row m c h) y x

end Cert.KernelIdeal.Arrays

end
-- ==== Proof.TopK.lean ====
/-
  The host's top-k along the rows of a matrix, read over the extended reals: column 0 of the result holds the greatest
  entry of each row, and columns 0 and 1 hold the two greatest.
-/
module

public import proofs.«01_k».proof.Proof.TopTwo
public import Idealize.ShloMosaic.Lib.Pointwise
public import Idealize.ShloMosaic.Lib.SortFacts

@[expose] public section

noncomputable section

namespace Cert.Knn

open Idealize.ShloMosaic

/-- The order of positions that top-k of a row sorts by: the greater entry comes first. -/
def greaterFirst {n : ℕ} (f : Fin n → EReal) (k k' : Fin n) : Bool :=
  (Ideal.cmpTotal .gt (f k) (f k') : BitVec 1) == 1#1

/-- `greaterFirst` says that one entry is above the other. -/
theorem greaterFirst_iff {n : ℕ} (f : Fin n → EReal) (k k' : Fin n) : greaterFirst f k k' = true ↔ f k' < f k := by
  unfold greaterFirst Ideal.cmpTotal Ideal.cmp CmpDirection.ordered
  by_cases h : f k' < f k <;> simp [h]

/-- After the sort, entries do not increase with the position. -/
theorem sorted_le {n : ℕ} (f : Fin n → EReal) {i j : Fin n} (hij : i < j) :
    f (sortedFrom (greaterFirst f) j) ≤ f (sortedFrom (greaterFirst f) i) := by
  have hnot : ∀ a b : Fin n, greaterFirst f a b = false ↔ f a ≤ f b := fun a b => by
    rw [← Bool.not_eq_true, greaterFirst_iff, not_lt]
  refine (hnot _ _).mp (sortedFrom_noInversion (greaterFirst f) (greaterFirst f) ?_ (fun _ _ h => h) ?_ i j hij)
  · intro a b h
    exact (hnot b a).mpr (le_of_lt ((greaterFirst_iff f a b).mp h))
  · intro a b c hab hbc
    exact (hnot a c).mpr (((hnot a b).mp hab).trans ((hnot b c).mp hbc))

/-- The entry sorted first is the greatest. -/
theorem sorted_first {n : ℕ} (hn : 0 < n) (f : Fin n → EReal) :
    f (sortedFrom (greaterFirst f) ⟨0, hn⟩) = Finset.univ.sup f := by
  refine le_antisymm (Finset.le_sup (Finset.mem_univ _)) (Finset.sup_le fun j _ => ?_)
  obtain ⟨k, rfl⟩ := sortedFrom_surjective (greaterFirst f) j
  rcases Nat.eq_zero_or_pos k.val with h | h
  · exact le_of_eq (congrArg (fun t => f (sortedFrom (greaterFirst f) t)) (Fin.ext h))
  · exact sorted_le f (Fin.mk_lt_of_lt_val h)

/-- The entries sorted first and second are the two greatest. -/
theorem sorted_topTwo {n : ℕ} (hn : 1 < n) (f : Fin n → EReal) :
    TopTwo f (f (sortedFrom (greaterFirst f) ⟨0, Nat.lt_of_succ_lt hn⟩)) (f (sortedFrom (greaterFirst f) ⟨1, hn⟩)) := by
  refine ⟨sortedFrom (greaterFirst f) ⟨0, Nat.lt_of_succ_lt hn⟩, rfl, sorted_first _ f, le_antisymm ?_ ?_⟩
  · refine Finset.le_sup (f := f) (Finset.mem_erase.mpr ⟨fun h => ?_, Finset.mem_univ _⟩)
    have := congrArg Fin.val (sortedFrom_injective (greaterFirst f) h)
    simp at this
  · refine Finset.sup_le fun j hj => ?_
    obtain ⟨k, rfl⟩ := sortedFrom_surjective (greaterFirst f) j
    have hk0 : k.val ≠ 0 := fun h => (Finset.mem_erase.mp hj).1 (congrArg (sortedFrom (greaterFirst f)) (Fin.ext h))
    rcases eq_or_ne k.val 1 with h | h
    · exact le_of_eq (congrArg (fun t => f (sortedFrom (greaterFirst f) t)) (Fin.ext h))
    · exact sorted_le f (show (1 : ℕ) < k.val by omega)

/-- Top-k along the rows of a matrix at row `r` and column `c`: the row's entry that is sorted at position `c`. -/
theorem topK_apply {a n b : ℕ} (x : FVec Ideal (⟨2, ![a, n]⟩ : Shape) .f32)
    (h : (⟨2, ![a, n]⟩ : Shape).Slices (fun _ => 0) ⟨2, ![a, b]⟩) (r : Fin a) (c : Fin b) (hc : c.val < n) :
    (Host.topK ⟨2, ![a, b]⟩ 1 (FloatOps.cmpfTotal (F := Ideal) .gt) x h).1 (ix2 r c)
      = x (ix2 r (sortedFrom (greaterFirst fun k => x (ix2 r k)) ⟨c.val, hc⟩)) := by
  have hal : ∀ c' k : Fin n, Shape.Idx.along (s := ⟨2, ![a, n]⟩) (ix2 r c') (1 : Fin 2) k = ix2 r k := fun c' k => by
    funext d
    match d with
    | ⟨0, _⟩ => rfl
    | ⟨1, _⟩ => rfl
  have hrow : ∀ c' : Fin n, (fun k k' : Fin n =>
      (Ideal.cmpTotal .gt (x (Shape.Idx.along (s := ⟨2, ![a, n]⟩) (ix2 r c') (1 : Fin 2) k))
        (x (Shape.Idx.along (s := ⟨2, ![a, n]⟩) (ix2 r c') (1 : Fin 2) k')) : BitVec 1) == 1#1)
        = greaterFirst fun k => x (ix2 r k) := fun c' => by
    funext k k'
    exact congrArg₂ (fun u v => (Ideal.cmpTotal .gt (x u) (x v) : BitVec 1) == 1#1) (hal c' k) (hal c' k')
  have hj : (fun d : Fin 2 => (⟨0 + ((ix2 r c) d).val, by
      have h1 := r.isLt
      match d with
      | ⟨0, _⟩ => show 0 + r.val < a; omega
      | ⟨1, _⟩ => show 0 + c.val < n; omega⟩ : Fin ((![a, n] : Fin 2 → ℕ) d))) = ix2 r ⟨c.val, hc⟩ := by
    funext d
    match d with
    | ⟨0, _⟩ => exact Fin.ext (Nat.zero_add _)
    | ⟨1, _⟩ => exact Fin.ext (Nat.zero_add _)
  have key : ∀ j : (⟨2, ![a, n]⟩ : Shape).Idx, j = ix2 r ⟨c.val, hc⟩ →
      (Host.sort2 (⟨2, ![a, n]⟩ : Shape) 1 (fun (u v : EReal × BitVec 32) => Ideal.cmpTotal .gt u.1 v.1) x
        (fun i => if hd : 1 < 2 then iotaInDim (⟨2, ![a, n]⟩ : Shape) 32 ⟨1, hd⟩ i else 0#32)).1 j
        = x (ix2 r (sortedFrom (greaterFirst fun k => x (ix2 r k)) ⟨c.val, hc⟩)) := by
    rintro j rfl
    refine (congrArg x (hal ⟨c.val, hc⟩ _)).trans (congrArg (fun t => x (ix2 r t)) ?_)
    exact congrArg (fun before => sortedFrom before ⟨c.val, hc⟩) (hrow ⟨c.val, hc⟩)
  exact key _ hj

end Cert.Knn

end
-- ==== Proof.RefStages.lean ====
/-
  The reference's composed operations, cut into stages, and what each stage holds at an index, over the extended reals.
-/
module

public import proofs.«01_k».proof.Proof.Spec
public import proofs.«01_k».proof.Proof.TopK
public import proofs.«01_k».proof.Proof.Gen.ReferenceIdeal

@[expose] public section

set_option maxRecDepth 16384

noncomputable section

namespace Cert.ReferenceIdeal.Stages

open Cert.ReferenceIdeal Cert.ReferenceIdeal.Gen Cert.Knn Idealize.ShloMosaic

/-- The norms of the feature rows. -/
def norms (x : FVec Ideal S1x256x384 .f32) : FVec Ideal S1x256x1 .f32 :=
  Host.sqrt (broadcastInDim S1x256x1 ![0, 1] bcast_S1x256_S1x256x1_0_1
    (Host.reduceAdd (mulf x x) (constant S_ .f32 0x00000000#32) reducesTo_S1x256x384_S1x256_d2 h_S_))

/-- The features over their norms plus `1e-8`, as a matrix. -/
def patches (x : FVec Ideal S1x256x384 .f32) : FVec Ideal S256x384 .f32 :=
  shapeCast _ (Host.divf x (broadcastInDim S1x256x384 ![0, 1, 2] bcast_S1x256x1_S1x256x384_0_1_2
    (addf (norms x) (broadcastInDim S1x256x1 ![] bcast_S_S1x256x1 (constant S_ .f32 0x322BCC77#32)))))
    shapeCasts_S1x256x384_S256x384

/-- The features over their norms, as a matrix. -/
def units (x : FVec Ideal S1x256x384 .f32) : FVec Ideal S256x384 .f32 :=
  shapeCast _ (Host.divf x (broadcastInDim S1x256x384 ![0, 1, 2] bcast_S1x256x1_S1x256x384_0_1_2 (norms x)))
    shapeCasts_S1x256x384_S256x384

/-- The bank rows over their norms. -/
def bankUnits (y : FVec Ideal S200000x384 .f32) : FVec Ideal S200000x384 .f32 :=
  Host.divf y (broadcastInDim S200000x384 ![0, 1] bcast_S200000x1_S200000x384_0_1
    (Host.sqrt (broadcastInDim S200000x1 ![0] bcast_S200000_S200000x1_0
      (Host.reduceAdd (mulf y y) (constant S_ .f32 0x00000000#32) reducesTo_S200000x384_S200000_d1 h_S_))))

/-- The negated distances of every feature row to every bank row. -/
def negDists (x : FVec Ideal S1x256x384 .f32) (y : FVec Ideal S200000x384 .f32) : FVec Ideal S256x200000 .f32 :=
  Host.negf (Host.sqrt (maximumf (subf (addf
    (broadcastInDim S256x200000 ![0, 1] bcast_S256x1_S256x200000_0_1 (broadcastInDim S256x1 ![0] bcast_S256_S256x1_0
      (Host.reduceAdd (mulf (units x) (units x)) (constant S_ .f32 0x00000000#32) reducesTo_S256x384_S256_d1 h_S_)))
    (broadcastInDim S256x200000 ![0, 1] bcast_S1x200000_S256x200000_0_1 (broadcastInDim S1x200000 ![1] bcast_S200000_S1x200000_1
      (Host.reduceAdd (mulf (bankUnits y) (bankUnits y)) (constant S_ .f32 0x00000000#32) reducesTo_S200000x384_S200000_d1 h_S_))))
    (mulf (broadcastInDim S256x200000 ![] bcast_S_S256x200000 (constant S_ .f32 0x40000000#32))
      (Host.dotGeneral dot_S256x384_S384x200000_S256x200000_1_0_0_1_n_n none (patches x)
        (transpose S384x200000 [1, 0] (bankUnits y) transposes_S200000x384_S384x200000_1_0))))
    (broadcastInDim S256x200000 ![] bcast_S_S256x200000 (constant S_ .f32 0x2B8CBCCC#32))))

/-- The patch scores: of each row the mean of the one smallest distance. -/
def scoresOf (nd : FVec Ideal S256x200000 .f32) : FVec Ideal S1x256 .f32 :=
  shapeCast _ (Host.divf (Host.reduceAdd (Host.negf
    ((Host.topK S256x1 1 (FloatOps.cmpfTotal .gt) nd sliceFits_S256x200000_S256x1).1))
    (constant S_ .f32 0x00000000#32) reducesTo_S256x1_S256_d1 h_S_)
    (broadcastInDim S256 ![] bcast_S_S256 (constant S_ .f32 0x3F800000#32))) shapeCasts_S256_S1x256

/-- The image score: the mean of the two greatest patch scores. -/
def imageScore (d : FVec Ideal S1x256 .f32) : FVec Ideal S1x1 .f32 :=
  Host.divf (broadcastInDim S1x1 ![0] bcast_S1_S1x1_0
    (Host.reduceAdd ((Host.topK S1x2 1 (FloatOps.cmpfTotal .gt) d sliceFits_S1x256_S1x2).1)
      (constant S_ .f32 0x00000000#32) reducesTo_S1x2_S1_d1 h_S_))
    (broadcastInDim S1x1 ![] bcast_S_S1x1 (constant S_ .f32 0x40000000#32))

/-- The map: the patch scores on the patch grid, resized along both axes by a table of weights. -/
def anomalyMap (w : FVec Ideal S224x16 .f32) (d : FVec Ideal S1x256 .f32) : FVec Ideal S1x1x224x224 .f32 :=
  transpose S1x1x224x224 [1, 2, 0, 3] (Host.dotGeneral dot_S224x1x1x16_S224x16_S224x1x1x224_3_1_012_0_n_n none
    (Host.dotGeneral dot_S224x16_S1x1x16x16_S224x1x1x16_1_2_0_013_n_n none w
      (shapeCast _ d shapeCasts_S1x256_S1x1x16x16)) w) transposes_S224x1x1x224_S1x1x224x224_1_2_0_3

/-- A feature's patch value, at an index. -/
theorem patches_apply (x : FVec Ideal S1x256x384 .f32) (p : Fin 256) (k : Fin 384) :
    patches x (ix2 p k) = patch (fun i => x (ix3 0 p i)) k := by
  pointwise [patches, norms]
  rfl

/-- A unit feature, at an index. -/
theorem units_apply (x : FVec Ideal S1x256x384 .f32) (p : Fin 256) (k : Fin 384) :
    units x (ix2 p k) = unit (fun i => x (ix3 0 p i)) k := by
  pointwise [units, norms]
  rfl

/-- A unit bank row, at an index. -/
theorem bankUnits_apply (y : FVec Ideal S200000x384 .f32) (j : Fin 200000) (k : Fin 384) :
    bankUnits y (ix2 j k) = unit (fun i => y (ix2 j i)) k := by
  pointwise [bankUnits]
  rfl

/-- The negated distance of feature row `p` to bank row `j`. -/
theorem negDists_apply (x : FVec Ideal S1x256x384 .f32) (y : FVec Ideal S200000x384 .f32) (p : Fin 256) (j : Fin 200000) :
    negDists x y (ix2 p j) = -pairDist (fun i => x (ix3 0 p i)) (fun i => y (ix2 j i)) := by
  pointwise [negDists]
  simp only [patches_apply, units_apply, bankUnits_apply]
  rfl

/-- Dividing by one changes nothing. -/
theorem div_by_one (a : EReal) : Ideal.div a 1 = a := by
  have h := Ideal.div_coe (y := 1) one_ne_zero a
  simpa using h

/-- The mean of the one greatest entry, negated, is minus the row's supremum. -/
theorem scoresOf_apply (nd : FVec Ideal S256x200000 .f32) (p : Fin 256) :
    scoresOf nd (ix2 0 p) = -(Finset.univ.sup fun j => nd (ix2 p j)) := by
  pointwise [scoresOf]
  refine (div_by_one _).trans ((Fin.sum_univ_one _).trans (congrArg (- ·) ?_))
  exact (topK_apply nd sliceFits_S256x200000_S256x1 p 0 (by decide)).trans
    (sorted_first (by decide) fun j => nd (ix2 p j))

/-- The image score is half the sum of the two greatest patch scores. -/
theorem imageScore_apply (d : FVec Ideal S1x256 .f32) :
    ∃ a b : EReal, TopTwo (fun p => d (ix2 0 p)) a b ∧ imageScore d (ix2 0 0) = Ideal.div (a + b) two := by
  refine ⟨_, _, sorted_topTwo (by decide) fun p => d (ix2 0 p), ?_⟩
  pointwise [imageScore]
  refine congrArg (Ideal.div · two) ((Fin.sum_univ_two _).trans ?_)
  exact congr (congrArg HAdd.hAdd (topK_apply d sliceFits_S1x256_S1x2 0 0 (by decide)))
    (topK_apply d sliceFits_S1x256_S1x2 0 1 (by decide))

/-- The map at a pixel is the weighted sum over the patch grid. -/
theorem anomalyMap_apply (w : FVec Ideal S224x16 .f32) (d : FVec Ideal S1x256 .f32) (y x : Fin 224) :
    anomalyMap w d (ix4 0 0 y x) = mapAt (fun y i => w (ix2 y i)) (fun p => d (ix2 0 p)) y x := by
  pointwise [anomalyMap]
  unfold mapAt
  simp only [Nat.mul_comm]

end Cert.ReferenceIdeal.Stages

end
-- ==== Proof.RefValue.lean ====
/-
  What the reference's two result arrays hold after its run, over the extended reals.
-/
module

public import proofs.«01_k».proof.Proof.RefStages
public import proofs.«01_k».proof.Proof.Gen.ReferenceIdeal.Run

@[expose] public section

set_option maxRecDepth 16384

noncomputable section

namespace Cert.ReferenceIdeal.Results

open Cert.ReferenceIdeal Cert.ReferenceIdeal.Gen Cert.ReferenceIdeal.Stages Cert.Knn
open Idealize.ShloMosaic Idealize.ShloMosaic.TcCoe Idealize.SL.Sem

variable (x : FVec Ideal S1x256x384 .f32) (y : FVec Ideal S200000x384 .f32)

/-- The table of resize weights. -/
def table : FVec Ideal S224x16 .f32 := fun i => FloatOps.ofBits .f32 (lit0 (S224x16.rowMajor i))

/-- The score's array. -/
def score : FVec Ideal S1x1 .f32 := imageScore (scoresOf (negDists x y))

/-- The map's array. -/
def map : FVec Ideal S1x1x224x224 .f32 := anomalyMap table (scoresOf (negDists x y))

/-- Each run ends with the two arrays holding the stages' results, and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v44)
          = score (m ((c : Thread nD τ).loc main_arg0)) (m ((c : Thread nD τ).loc main_arg1))
      ∧ r.2.mem ((c : Thread nD τ).loc main_v48)
          = map (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  Value.run m ρ

/-- A patch score is the reference's distance of the feature row to the bank. -/
theorem patch_score (p : Fin 256) : scoresOf (negDists x y) (ix2 0 p)
    = referenceDist (fun k => x (ix3 0 p k)) (fun (j : Fin 200000) k => y (ix2 j k)) := by
  rw [scoresOf_apply]
  simp only [negDists_apply]
  rfl

/-- The score, in terms of the reference's distances. -/
theorem score_value : ∃ a b : EReal,
    TopTwo (fun p : Fin 256 => referenceDist (fun k => x (ix3 0 p k)) (fun (j : Fin 200000) k => y (ix2 j k))) a b
      ∧ score x y (ix2 0 0) = Ideal.div (a + b) two := by
  have h := imageScore_apply (scoresOf (negDists x y))
  simp only [patch_score] at h
  exact h

/-- The map, in terms of the reference's distances. -/
theorem map_value (i j : Fin 224) : map x y (ix4 0 0 i j)
    = mapAt (fun y i => table (ix2 y i))
        (fun p : Fin 256 => referenceDist (fun k => x (ix3 0 p k)) (fun (j : Fin 200000) k => y (ix2 j k))) i j := by
  rw [map, anomalyMap_apply]
  simp only [patch_score]

end Cert.ReferenceIdeal.Results

end
-- ==== Proof.Consts.lean ====
/-
  The values of the programs' constants.
-/
module

public import proofs.«01_k».proof.Proof.Spec

@[expose] public section

noncomputable section

namespace Cert.Knn

open Idealize.ShloMosaic

/-- The constant two is two. -/
theorem two_eq : two = ((2 : ℝ) : EReal) := by
  simp [two, Ideal.ofBits, Ideal.ieee, -EReal.coe_mul]
  norm_num

/-- The constant one half is one half. -/
theorem half_eq : half = ((1 / 2 : ℝ) : EReal) := by
  simp [half, Ideal.ofBits, Ideal.ieee, -EReal.coe_mul]
  norm_num

/-- The number added to a norm is a positive real. -/
theorem eps_real : ∃ e : ℝ, 0 < e ∧ eps = (e : EReal) := by
  refine ⟨11258999 * 2 ^ (-50 : ℤ), by positivity, ?_⟩
  simp [eps, Ideal.ofBits, Ideal.ieee, -EReal.coe_mul]

/-- The least squared distance is a positive real. -/
theorem least_real : ∃ l : ℝ, 0 < l ∧ least = (l : EReal) := by
  refine ⟨9223372 * 2 ^ (-63 : ℤ), by positivity, ?_⟩
  simp [least, Ideal.ofBits, Ideal.ieee, -EReal.coe_mul]

/-- The word of plus infinity is the top. -/
theorem inf_eq : Ideal.ofBits .f32 0x7F800000#32 = (⊤ : EReal) := by
  simp [Ideal.ofBits, Ideal.ieee]

end Cert.Knn

end
-- ==== Proof.Distances.lean ====
/-
  The equation: on rows that are finite and not zero, the kernel's distance, that of the greatest similarity, is the
  reference's distance, the least over the bank.
-/
module

public import proofs.«01_k».proof.Proof.Consts
public import proofs.«01_k».proof.Proof.TopTwo

@[expose] public section

noncomputable section

namespace Cert.Knn

open Idealize.ShloMosaic

/-- A row of real numbers, read as extended reals. -/
def realRow (r : Fin 384 → ℝ) (k : Fin 384) : EReal := (r k : EReal)

/-- A row's sum of squares, over the reals. -/
def squares (r : Fin 384 → ℝ) : ℝ := ∑ k, r k * r k

/-- A finite sum of reals is the same over the extended reals. -/
theorem coe_sum {n : ℕ} (f : Fin n → ℝ) : (∑ k, (f k : EReal)) = ((∑ k, f k : ℝ) : EReal) :=
  (map_sum (⟨⟨Real.toEReal, EReal.coe_zero⟩, EReal.coe_add⟩ : ℝ →+ EReal) f Finset.univ).symm

/-- The sum of squares of a real row. -/
theorem sumSq_real (r : Fin 384 → ℝ) : sumSq (realRow r) = ((squares r : ℝ) : EReal) := by
  unfold sumSq squares realRow
  simp only [← EReal.coe_mul]
  exact coe_sum _

/-- A square is not negative. -/
theorem square_nonneg (a : EReal) : 0 ≤ a * a := by
  rcases le_total 0 a with h | h
  · exact mul_nonneg h h
  · have := mul_nonneg (EReal.neg_nonneg.mpr h) (EReal.neg_nonneg.mpr h)
    rwa [neg_mul_neg] at this

/-- A row whose sum of squares is finite is a row of reals. -/
theorem real_of_finite (x : Fin 384 → EReal) (h : sumSq x < ⊤) : ∃ r : Fin 384 → ℝ, x = realRow r := by
  refine ⟨fun k => (x k).toReal, funext fun k => ?_⟩
  have hk : x k * x k < ⊤ :=
    lt_of_le_of_lt (Finset.single_le_sum (f := fun i => x i * x i) (fun i _ => square_nonneg (x i)) (Finset.mem_univ k)) h
  refine (EReal.coe_toReal (fun e => ?_) (fun e => ?_)).symm
  · rw [e] at hk
    exact absurd hk (by simp)
  · rw [e] at hk
    exact absurd hk (by simp)

/-- The root of a real that is not negative. -/
theorem sqrt_real (s : ℝ) (h : 0 ≤ s) : Ideal.sqrt (s : EReal) = ((√s : ℝ) : EReal) := by
  exact if_neg (not_lt.mpr h)

/-- The reciprocal of the root of a positive real. -/
theorem rsqrt_real (s : ℝ) (h : 0 < s) : Ideal.rsqrt (s : EReal) = (((√s)⁻¹ : ℝ) : EReal) := by
  exact (if_neg (not_lt.mpr h.le)).trans (if_neg h.ne')

/-- A real row over its norm. -/
theorem unit_real (r : Fin 384 → ℝ) (h : 0 < squares r) (k : Fin 384) :
    unit (realRow r) k = ((r k * (√(squares r))⁻¹ : ℝ) : EReal) := by
  unfold unit
  rw [sumSq_real, sqrt_real _ h.le, Ideal.div_coe (Real.sqrt_pos.mpr h).ne', one_div]
  exact (EReal.coe_mul _ _).symm

/-- A real row over its norm plus the small number is a real row. -/
theorem patch_real (r : Fin 384 → ℝ) : ∃ q : Fin 384 → ℝ, patch (realRow r) = realRow q := by
  obtain ⟨e, he, hε⟩ := eps_real
  have hs : 0 ≤ squares r := Finset.sum_nonneg fun k _ => mul_self_nonneg (r k)
  refine ⟨fun k => r k * (1 / (√(squares r) + e)), funext fun k => ?_⟩
  unfold patch
  rw [sumSq_real, sqrt_real _ hs, hε, ← EReal.coe_add, Ideal.div_coe (by positivity)]
  exact (EReal.coe_mul _ _).symm

/-- A unit row's sum of squares is one. -/
theorem sumSq_unit (r : Fin 384 → ℝ) (h : 0 < squares r) : sumSq (unit (realRow r)) = ((1 : ℝ) : EReal) := by
  have e : unit (realRow r) = realRow fun k => r k * (√(squares r))⁻¹ := funext fun k => unit_real r h k
  rw [e, sumSq_real]
  congr 1
  have hroot := Real.mul_self_sqrt h.le
  have hne := (Real.sqrt_pos.mpr h).ne'
  calc squares (fun k => r k * (√(squares r))⁻¹)
      = squares r * ((√(squares r))⁻¹ * (√(squares r))⁻¹) := by
        unfold squares
        rw [Finset.sum_mul]
        exact Finset.sum_congr rfl fun k _ => by ring
    _ = 1 := by
        rw [← mul_inv, hroot]
        exact mul_inv_cancel₀ h.ne'

/-- The similarity of two real rows is a real number, the product of the patch with the unit bank row. -/
theorem similarity_real (r y : Fin 384 → ℝ) (hy : 0 < squares y) :
    ∃ s : ℝ, similarity (realRow r) (realRow y) = (s : EReal)
      ∧ ∑ k, patch (realRow r) k * unit (realRow y) k = (s : EReal) := by
  obtain ⟨q, hq⟩ := patch_real r
  refine ⟨(∑ k, y k * q k) * (√(squares y))⁻¹, ?_, ?_⟩
  · unfold similarity
    rw [hq, sumSq_real, rsqrt_real _ hy]
    unfold realRow
    simp only [← EReal.coe_mul]
    rw [coe_sum, ← EReal.coe_mul]
  · rw [hq]
    simp only [unit_real y hy, realRow, ← EReal.coe_mul]
    rw [coe_sum, Finset.sum_mul]
    exact congrArg _ (Finset.sum_congr rfl fun k _ => by ring)

/-- The reference's distance of two real rows is the one that belongs to their similarity. -/
theorem pairDist_real (r y : Fin 384 → ℝ) (hr : 0 < squares r) (hy : 0 < squares y) :
    pairDist (realRow r) (realRow y) = distOf (similarity (realRow r) (realRow y)) := by
  obtain ⟨s, h1, h2⟩ := similarity_real r y hy
  have h : ((1 : ℝ) : EReal) + ((1 : ℝ) : EReal) = two := by
    rw [two_eq, ← EReal.coe_add]
    norm_num
  unfold pairDist distOf
  rw [sumSq_unit r hr, sumSq_unit y hy, h1, h2, h]

/-- A greater similarity has a distance that is not greater. -/
theorem distOf_antitone {s t : ℝ} (h : s ≤ t) : distOf (t : EReal) ≤ distOf (s : EReal) := by
  obtain ⟨l, hl, el⟩ := least_real
  have value : ∀ u : ℝ, distOf (u : EReal) = ((√(max (2 - 2 * u) l) : ℝ) : EReal) := fun u => by
    unfold distOf
    rw [two_eq, el, ← EReal.coe_mul, ← EReal.coe_sub, ← EReal.coe_strictMono.monotone.map_max,
      sqrt_real _ (hl.le.trans (le_max_right _ _))]
  rw [value, value, EReal.coe_le_coe_iff]
  exact Real.sqrt_le_sqrt (max_le_max (by linarith) le_rfl)

/-- On rows that are finite and not zero, the kernel's distance to the bank is the reference's. -/
theorem referenceDist_eq (x : Fin 384 → EReal) (Y : Fin 200000 → Fin 384 → EReal) (hx : 0 < sumSq x ∧ sumSq x < ⊤)
    (hY : ∀ j, 0 < sumSq (Y j) ∧ sumSq (Y j) < ⊤) : referenceDist x Y = kernelDist x Y := by
  obtain ⟨r, rfl⟩ := real_of_finite x hx.2
  have hr : 0 < squares r := by
    have := hx.1
    rwa [sumSq_real, EReal.coe_pos] at this
  have pair : ∀ j, ∃ s : ℝ, similarity (realRow r) (Y j) = (s : EReal) ∧ pairDist (realRow r) (Y j) = distOf (s : EReal) := by
    intro j
    obtain ⟨y, hy⟩ := real_of_finite (Y j) (hY j).2
    have hp : 0 < squares y := by
      have := (hY j).1
      rwa [hy, sumSq_real, EReal.coe_pos] at this
    obtain ⟨s, hs, -⟩ := similarity_real r y hp
    rw [hy]
    exact ⟨s, hs, by rw [pairDist_real r y hr hp, hs]⟩
  choose s hs hd using pair
  obtain ⟨best, hbest⟩ := exists_eq_sup (by decide : 0 < 200000) fun j => similarity (realRow r) (Y j)
  have le : ∀ j, s j ≤ s best := fun j => by
    have h : similarity (realRow r) (Y j) ≤ similarity (realRow r) (Y best) :=
      (Finset.le_sup (f := fun j => similarity (realRow r) (Y j)) (Finset.mem_univ j)).trans hbest.ge
    rwa [hs, hs, EReal.coe_le_coe_iff] at h
  unfold referenceDist kernelDist
  rw [← hbest]
  have sup : (Finset.univ.sup fun j => -pairDist (realRow r) (Y j)) = -pairDist (realRow r) (Y best) := by
    refine le_antisymm (Finset.sup_le fun j _ => ?_)
      (Finset.le_sup (f := fun j => -pairDist (realRow r) (Y j)) (Finset.mem_univ best))
    rw [EReal.neg_le_neg_iff, hd, hd]
    exact distOf_antitone (le j)
  rw [sup, neg_neg, hd, hs]

/-- Half the sum of two numbers is their sum over two. -/
theorem mean_of_two (a b : EReal) : Ideal.div (a + b) two = half * (a + b) := by
  rw [two_eq, half_eq, Ideal.div_coe two_ne_zero, mul_comm]

end Cert.Knn

end
-- ==== Proof.Rows.lean ====
/-
  The precondition, read over the extended reals: every row's sum of squares is positive and finite.
-/
module

public import proofs.«01_k».proof.Proof.Consts
public import proofs.«01_k».proof.Proof.Gen.Pre_rows_nonzero
public import Idealize.ShloMosaic.Lib.Pointwise

@[expose] public section

set_option maxRecDepth 16384

noncomputable section

namespace Cert.Knn

open Idealize.ShloMosaic Cert.Pre_rows_nonzero

/-- Two conditions whose truth bits have the conjunction one both hold. -/
theorem both_of_and {P Q : Prop} [Decidable P] [Decidable Q]
    (h : IntOp.andi (BitVec.ofBool (decide P)) (BitVec.ofBool (decide Q)) = 1#1) : P ∧ Q := by
  by_cases hp : P <;> by_cases hq : Q <;> simp_all [IntOp.andi]

/-- What the precondition says of the feature rows. -/
theorem features_nonzero (x : FVec Ideal S1x256x384 .f32) (y : FVec Ideal S200000x384 .f32)
    (h : (fn (F := Ideal) x y).1 = fun _ => 1#1) (p : Fin 256) :
    0 < sumSq (fun k => x (ix3 0 p k)) ∧ sumSq (fun k => x (ix3 0 p k)) < ⊤ := by
  have e := congrFun h (ix2 0 p)
  pointwise [fn] at e
  rw [inf_eq] at e
  exact both_of_and e

/-- What the precondition says of the rows of the bank. -/
theorem bank_nonzero (x : FVec Ideal S1x256x384 .f32) (y : FVec Ideal S200000x384 .f32)
    (h : (fn (F := Ideal) x y).2 = fun _ => 1#1) (j : Fin 200000) :
    0 < sumSq (fun k => y (ix2 j k)) ∧ sumSq (fun k => y (ix2 j k)) < ⊤ := by
  have e := congrFun h (ix1 j)
  pointwise [fn] at e
  rw [inf_eq] at e
  exact both_of_and e

end Cert.Knn

end
-- ==== Proof.Equation.lean ====
/-
  The equation of the two programs: on the same arguments, with rows that are finite and not zero, the reference's
  arrays are the kernel's.
-/
module

public import proofs.«01_k».proof.Proof.KernelValue
public import proofs.«01_k».proof.Proof.RefValue
public import proofs.«01_k».proof.Proof.Distances
public import proofs.«01_k».proof.Proof.Rows

@[expose] public section

set_option maxRecDepth 16384

noncomputable section

namespace Cert.Knn

open Idealize.ShloMosaic Idealize.ShloMosaic.TcCoe Idealize.SL.Sem
open Cert.KernelIdeal.Arrays (feat bank weight dist)

/-- The two programs' tables of resize weights hold the same words. -/
theorem tables_eq : Cert.KernelIdeal.lit0 = Cert.ReferenceIdeal.lit0 :=
  funext (by decide +kernel : ∀ i : Fin 3584, Cert.KernelIdeal.lit0 i = Cert.ReferenceIdeal.lit0 i)

/-- The two programs' weights are the same. -/
theorem weight_eq (y : Fin 224) (i : Fin 16) : Cert.ReferenceIdeal.Results.table (ix2 y i) = weight y i :=
  congrArg (Ideal.ofBits .f32) (congrFun tables_eq (Cert.KernelIdeal.S224x16.rowMajor (ix2 y i))).symm

variable (m : (ℓ : Loc Cert.KernelIdeal.nD Cert.KernelIdeal.τ Cert.KernelIdeal.sig) → Buf (Elt Ideal) ℓ)
  (c : Dev Cert.KernelIdeal.nD)

/-- The launch's first argument. -/
def argFeatures : FVec Ideal Cert.ReferenceIdeal.S1x256x384 .f32 :=
  m ((c : Thread Cert.KernelIdeal.nD Cert.KernelIdeal.τ).loc Cert.KernelIdeal.main_arg0)

/-- The launch's second argument. -/
def argBank : FVec Ideal Cert.ReferenceIdeal.S200000x384 .f32 :=
  m ((c : Thread Cert.KernelIdeal.nD Cert.KernelIdeal.τ).loc Cert.KernelIdeal.main_arg1)

/-- Every feature row and every bank row is finite and not zero. -/
def RowsNonzero : Prop := (Cert.Pre_rows_nonzero.fn (F := Ideal) (argFeatures m c) (argBank m c)).1 = (fun _ => 1#1)
  ∧ (Cert.Pre_rows_nonzero.fn (F := Ideal) (argFeatures m c) (argBank m c)).2 = (fun _ => 1#1)

/-- The reference's distance of a feature row is the kernel's. -/
theorem dist_eq (h : RowsNonzero m c) (p : Fin 256) :
    referenceDist (fun k => argFeatures m c (ix3 0 p k)) (fun (j : Fin 200000) k => argBank m c (ix2 j k)) = dist m c p :=
  referenceDist_eq _ _ (features_nonzero _ _ h.1 p) (bank_nonzero _ _ h.2)

/-- The score's arrays are equal. -/
theorem score_eq (h : RowsNonzero m c) :
    Cert.ReferenceIdeal.Results.score (argFeatures m c) (argBank m c) = Cert.KernelIdeal.Value.G3 m c := by
  obtain ⟨a, b, hk, ek⟩ := Cert.KernelIdeal.Arrays.score_value m c
  obtain ⟨a', b', hr, er⟩ := Cert.ReferenceIdeal.Results.score_value (argFeatures m c) (argBank m c)
  simp only [dist_eq m c h] at hr
  obtain ⟨rfl, rfl⟩ := hk.unique hr
  funext i
  have hi : i = ix2 0 0 := funext fun a => by
    match a with
    | ⟨0, _⟩ => exact Subsingleton.elim (α := Fin 1) _ _
    | ⟨1, _⟩ => exact Subsingleton.elim (α := Fin 1) _ _
  rw [hi]
  exact er.trans ((mean_of_two a b).trans ek.symm)

/-- The map's arrays are equal. -/
theorem map_eq (h : RowsNonzero m c) :
    Cert.ReferenceIdeal.Results.map (argFeatures m c) (argBank m c) = Cert.KernelIdeal.Value.G4 m c := by
  have at_pixel : ∀ y x : Fin 224, Cert.ReferenceIdeal.Results.map (argFeatures m c) (argBank m c) (ix4 0 0 y x)
      = Cert.KernelIdeal.Value.G4 m c (ix4 0 0 y x) := fun y x => by
    rw [Cert.ReferenceIdeal.Results.map_value]
    simp only [weight_eq, dist_eq m c h]
    exact (Cert.KernelIdeal.Arrays.map_value m c y x).symm
  funext i
  have hi : i = ix4 0 0 (i 2) (i 3) := funext fun a => by
    match a with
    | ⟨0, _⟩ => exact Subsingleton.elim (α := Fin 1) _ _
    | ⟨1, _⟩ => exact Subsingleton.elim (α := Fin 1) _ _
    | ⟨2, _⟩ => rfl
    | ⟨3, _⟩ => rfl
  rw [hi]
  exact at_pixel (i 2) (i 3)

end Cert.Knn

end
-- ==== Proof.lean ====
/-
  The claims, put together: the frames of the two kernel programs and of the reference, the idealization, which
  rewrites nothing, and the equality of both results over the extended reals (Proof/Equation.lean).
-/
module

public import proofs.«01_k».proof.Defs
public import proofs.«01_k».proof.Proof.Equation
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_rows_nonzero
public import Idealize.ShloMosaic.Adequacy
public import Idealize.ShloMosaic.Init

@[expose] public section

noncomputable section

namespace Cert.Proof

open Idealize.ShloMosaic Idealize.SL.Sem

/-- The reference runs, leaves its arguments as they were and, having no semaphore, every counter at zero. -/
theorem reference_frame : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Value.run m ρ)

/-- From the same arguments, with rows that are finite and not zero, both programs end with the same two arrays. -/
theorem results_equal : Cert.algebraic_KernelIdeal_ReferenceIdeal_pre_rows_nonzero := by
  intro m ρ m' ρ' pre same
  refine ⟨Cert.KernelIdeal.Value.G3 m, Cert.KernelIdeal.Value.G4 m, Cert.KernelIdeal.Value.run m ρ,
    (θ_run Cert.ReferenceIdeal.defs _ _).mono (fun r h c => ?_) (Cert.ReferenceIdeal.Results.run m' ρ')⟩
  obtain ⟨hs, hm, h0, h1⟩ := h c
  rw [(same c).1, (same c).2] at hs hm
  exact ⟨hs.trans (Cert.Knn.score_eq m c (pre c)), hm.trans (Cert.Knn.map_eq m c (pre c)), h0, h1⟩

/-- All the claims. -/
theorem claim : Cert.Claim :=
  ⟨Cert.Kernel.Gen.facts, Cert.KernelIdeal.Gen.facts, Cert.ReferenceIdeal.Gen.facts, Cert.Pre_rows_nonzero.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial,
    results_equal⟩

end Cert.Proof

end
